-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x64x64 : Shape := ⟨4, ![16, 255, 64, 64]⟩
abbrev S16x255x32x32 : Shape := ⟨4, ![16, 255, 32, 32]⟩
abbrev S16x255x16x16 : Shape := ⟨4, ![16, 255, 16, 16]⟩
abbrev S0x6 : Shape := ⟨2, ![0, 6]⟩
abbrev S1 : Shape := ⟨1, ![1]⟩
abbrev S5 : Shape := ⟨1, ![5]⟩
abbrev S_ : Shape := ⟨0, ![]⟩
abbrev S3x16x64x64 : Shape := ⟨4, ![3, 16, 64, 64]⟩
abbrev S3x16x32x32 : Shape := ⟨4, ![3, 16, 32, 32]⟩
abbrev S3x16x16x16 : Shape := ⟨4, ![3, 16, 16, 16]⟩
abbrev S9 : Shape := ⟨1, ![9]⟩
abbrev S1x16x64x64 : Shape := ⟨4, ![1, 16, 64, 64]⟩
abbrev S16x64x64 : Shape := ⟨3, ![16, 64, 64]⟩
abbrev S16x1x64x64 : Shape := ⟨4, ![16, 1, 64, 64]⟩
abbrev S1x16x32x32 : Shape := ⟨4, ![1, 16, 32, 32]⟩
abbrev S16x32x32 : Shape := ⟨3, ![16, 32, 32]⟩
abbrev S16x1x32x32 : Shape := ⟨4, ![16, 1, 32, 32]⟩
abbrev S1x16x16x16 : Shape := ⟨4, ![1, 16, 16, 16]⟩
abbrev S16x16x16 : Shape := ⟨3, ![16, 16, 16]⟩
abbrev S16x1x16x16 : Shape := ⟨4, ![16, 1, 16, 16]⟩
abbrev S1x3x16x64x64 : Shape := ⟨5, ![1, 3, 16, 64, 64]⟩
abbrev S1x1x1x1x1 : Shape := ⟨5, ![1, 1, 1, 1, 1]⟩
abbrev S1x3x16x32x32 : Shape := ⟨5, ![1, 3, 16, 32, 32]⟩
abbrev S1x3x16x16x16 : Shape := ⟨5, ![1, 3, 16, 16, 16]⟩

abbrev nBuf : Space → Nat
  | .hbm => 7
  | .vmem => 3
  | .smem => 2
  | _ => 0

abbrev bufTy : (tb : Table) → Fin (tcTables nBuf tb) → BufTy
  | .hbm, ⟨0, _⟩ => ⟨S16x255x64x64, .f32⟩
  | .hbm, ⟨1, _⟩ => ⟨S16x255x32x32, .f32⟩
  | .hbm, ⟨2, _⟩ => ⟨S16x255x16x16, .f32⟩
  | .hbm, ⟨3, _⟩ => ⟨S0x6, .f32⟩
  | .hbm, ⟨4, _⟩ => ⟨S1, .f32⟩
  | .hbm, ⟨5, _⟩ => ⟨S5, .f32⟩
  | .hbm, ⟨6, _⟩ => ⟨S_, .f32⟩
  | .local _ .vmem, ⟨0, _⟩ => ⟨S3x16x64x64, .f32⟩
  | .local _ .vmem, ⟨1, _⟩ => ⟨S3x16x32x32, .f32⟩
  | .local _ .vmem, ⟨2, _⟩ => ⟨S3x16x16x16, .f32⟩
  | .local _ .smem, ⟨0, _⟩ => ⟨S1, .f32⟩
  | .local _ .smem, ⟨1, _⟩ => ⟨S5, .f32⟩
  | _, _ => ⟨S16x255x64x64, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_v0_1 : Ref sig .tc := ⟨.hbm, 5, rfl⟩
abbrev main_v0_0 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x255x64x64 : Shape := ⟨4, ![16, 255, 64, 64]⟩
abbrev S16x255x32x32 : Shape := ⟨4, ![16, 255, 32, 32]⟩
abbrev S16x255x16x16 : Shape := ⟨4, ![16, 255, 16, 16]⟩
abbrev S0x6 : Shape := ⟨2, ![0, 6]⟩
abbrev S16x3x85x64x64 : Shape := ⟨5, ![16, 3, 85, 64, 64]⟩
abbrev S16x3x64x64x85 : Shape := ⟨5, ![16, 3, 64, 64, 85]⟩
abbrev S16x3x64x64x1 : Shape := ⟨5, ![16, 3, 64, 64, 1]⟩
abbrev S16x3x64x64 : Shape := ⟨4, ![16, 3, 64, 64]⟩
abbrev S_ : Shape := ⟨0, ![]⟩
abbrev S16x3x85x32x32 : Shape := ⟨5, ![16, 3, 85, 32, 32]⟩
abbrev S16x3x32x32x85 : Shape := ⟨5, ![16, 3, 32, 32, 85]⟩
abbrev S16x3x32x32x1 : Shape := ⟨5, ![16, 3, 32, 32, 1]⟩
abbrev S16x3x32x32 : Shape := ⟨4, ![16, 3, 32, 32]⟩
abbrev S16x3x85x16x16 : Shape := ⟨5, ![16, 3, 85, 16, 16]⟩
abbrev S16x3x16x16x85 : Shape := ⟨5, ![16, 3, 16, 16, 85]⟩
abbrev S16x3x16x16x1 : Shape := ⟨5, ![16, 3, 16, 16, 1]⟩
abbrev S16x3x16x16 : Shape := ⟨4, ![16, 3, 16, 16]⟩
abbrev S1 : Shape := ⟨1, ![1]⟩
abbrev S5 : Shape := ⟨1, ![5]⟩

abbrev nBuf : Space → Nat
  | .hbm => 135
  | .vmem => 0
  | .smem => 0
  | _ => 0

abbrev hbmTy0_0 (i : Nat) : BufTy := match i % 128 with
  | 0 => ⟨S16x255x64x64, .f32⟩
  | 1 => ⟨S16x255x32x32, .f32⟩
  | 2 => ⟨S16x255x16x16, .f32⟩
  | 3 => ⟨S0x6, .f32⟩
  | 4 => ⟨S16x3x85x64x64, .f32⟩
  | 5 => ⟨S16x3x64x64x85, .f32⟩
  | 6 => ⟨S16x3x64x64x1, .f32⟩
  | 7 => ⟨S16x3x64x64, .f32⟩
  | 8 => ⟨S_, .f32⟩
  | 9 => ⟨S16x3x64x64, .f32⟩
  | 10 => ⟨S16x3x64x64x1, .f32⟩
  | 11 => ⟨S16x3x64x64, .f32⟩
  | 12 => ⟨S_, .f32⟩
  | 13 => ⟨S16x3x64x64, .f32⟩
  | 14 => ⟨S16x3x64x64, .f32⟩
  | 15 => ⟨S16x3x64x64, .f32⟩
  | 16 => ⟨S16x3x64x64, .f32⟩
  | 17 => ⟨S16x3x64x64, .f32⟩
  | 18 => ⟨S16x3x64x64, .f32⟩
  | 19 => ⟨S16x3x64x64, .f32⟩
  | 20 => ⟨S16x3x64x64, .f32⟩
  | 21 => ⟨S16x3x64x64, .f32⟩
  | 22 => ⟨S16x3x64x64, .f32⟩
  | 23 => ⟨S16x3x64x64, .f32⟩
  | 24 => ⟨S_, .f32⟩
  | 25 => ⟨S16x3x64x64, .f32⟩
  | 26 => ⟨S16x3x64x64, .f32⟩
  | 27 => ⟨S_, .f32⟩
  | 28 => ⟨S16x3x64x64, .f32⟩
  | 29 => ⟨S16x3x64x64, .f32⟩
  | 30 => ⟨S_, .f32⟩
  | 31 => ⟨S16x3x64x64, .f32⟩
  | 32 => ⟨S16x3x64x64, .f32⟩
  | 33 => ⟨S16x3x64x64, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S16x3x85x32x32, .f32⟩
  | 41 => ⟨S16x3x32x32x85, .f32⟩
  | 42 => ⟨S16x3x32x32x1, .f32⟩
  | 43 => ⟨S16x3x32x32, .f32⟩
  | 44 => ⟨S_, .f32⟩
  | 45 => ⟨S16x3x32x32, .f32⟩
  | 46 => ⟨S16x3x32x32x1, .f32⟩
  | 47 => ⟨S16x3x32x32, .f32⟩
  | 48 => ⟨S_, .f32⟩
  | 49 => ⟨S16x3x32x32, .f32⟩
  | 50 => ⟨S16x3x32x32, .f32⟩
  | 51 => ⟨S16x3x32x32, .f32⟩
  | 52 => ⟨S16x3x32x32, .f32⟩
  | 53 => ⟨S16x3x32x32, .f32⟩
  | 54 => ⟨S16x3x32x32, .f32⟩
  | 55 => ⟨S16x3x32x32, .f32⟩
  | 56 => ⟨S16x3x32x32, .f32⟩
  | 57 => ⟨S16x3x32x32, .f32⟩
  | 58 => ⟨S16x3x32x32, .f32⟩
  | 59 => ⟨S16x3x32x32, .f32⟩
  | 60 => ⟨S_, .f32⟩
  | 61 => ⟨S16x3x32x32, .f32⟩
  | 62 => ⟨S16x3x32x32, .f32⟩
  | 63 => ⟨S_, .f32⟩
  | 64 => ⟨S16x3x32x32, .f32⟩
  | 65 => ⟨S16x3x32x32, .f32⟩
  | 66 => ⟨S_, .f32⟩
  | 67 => ⟨S16x3x32x32, .f32⟩
  | 68 => ⟨S16x3x32x32, .f32⟩
  | 69 => ⟨S16x3x32x32, .f32⟩
  | 70 => ⟨S_, .f32⟩
  | 71 => ⟨S_, .f32⟩
  | 72 => ⟨S_, .f32⟩
  | 73 => ⟨S_, .f32⟩
  | 74 => ⟨S_, .f32⟩
  | 75 => ⟨S16x3x85x16x16, .f32⟩
  | 76 => ⟨S16x3x16x16x85, .f32⟩
  | 77 => ⟨S16x3x16x16x1, .f32⟩
  | 78 => ⟨S16x3x16x16, .f32⟩
  | 79 => ⟨S_, .f32⟩
  | 80 => ⟨S16x3x16x16, .f32⟩
  | 81 => ⟨S16x3x16x16x1, .f32⟩
  | 82 => ⟨S16x3x16x16, .f32⟩
  | 83 => ⟨S_, .f32⟩
  | 84 => ⟨S16x3x16x16, .f32⟩
  | 85 => ⟨S16x3x16x16, .f32⟩
  | 86 => ⟨S16x3x16x16, .f32⟩
  | 87 => ⟨S16x3x16x16, .f32⟩
  | 88 => ⟨S16x3x16x16, .f32⟩
  | 89 => ⟨S16x3x16x16, .f32⟩
  | 90 => ⟨S16x3x16x16, .f32⟩
  | 91 => ⟨S16x3x16x16, .f32⟩
  | 92 => ⟨S16x3x16x16, .f32⟩
  | 93 => ⟨S16x3x16x16, .f32⟩
  | 94 => ⟨S16x3x16x16, .f32⟩
  | 95 => ⟨S_, .f32⟩
  | 96 => ⟨S16x3x16x16, .f32⟩
  | 97 => ⟨S16x3x16x16, .f32⟩
  | 98 => ⟨S_, .f32⟩
  | 99 => ⟨S16x3x16x16, .f32⟩
  | 100 => ⟨S16x3x16x16, .f32⟩
  | 101 => ⟨S_, .f32⟩
  | 102 => ⟨S16x3x16x16, .f32⟩
  | 103 => ⟨S16x3x16x16, .f32⟩
  | 104 => ⟨S16x3x16x16, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x255x64x64, .f32⟩

abbrev hbmTy0_1 (i : Nat) : BufTy := match i % 128 with
  | 0 => ⟨S_, .f32⟩
  | 1 => ⟨S1, .f32⟩
  | 2 => ⟨S1, .f32⟩
  | 3 => ⟨S1, .f32⟩
  | 4 => ⟨S1, .f32⟩
  | 5 => ⟨S1, .f32⟩
  | 6 => ⟨S5, .f32⟩
  | _ => ⟨S16x255x64x64, .f32⟩

abbrev hbmTy (i : Nat) : BufTy := match i / 128 with
  | 0 => hbmTy0_0 i
  | 1 => hbmTy0_1 i
  | _ => ⟨S16x255x64x64, .f32⟩

abbrev bufTy : (tb : Table) → Fin (tcTables nBuf tb) → BufTy
  | .hbm, ⟨i, _⟩ => hbmTy i
  | _, _ => ⟨S16x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_cst_21 : Ref sig .tc := ⟨.hbm, 110, rfl⟩
abbrev main_cst_22 : Ref sig .tc := ⟨.hbm, 111, rfl⟩
abbrev main_v84 : Ref sig .tc := ⟨.hbm, 112, rfl⟩
abbrev main_cst_23 : Ref sig .tc := ⟨.hbm, 113, rfl⟩
abbrev main_v85 : Ref sig .tc := ⟨.hbm, 114, rfl⟩
abbrev main_v86 : Ref sig .tc := ⟨.hbm, 115, rfl⟩
abbrev main_cst_24 : Ref sig .tc := ⟨.hbm, 116, rfl⟩
abbrev main_cst_25 : Ref sig .tc := ⟨.hbm, 117, rfl⟩
abbrev main_v87 : Ref sig .tc := ⟨.hbm, 118, rfl⟩
abbrev main_v88 : Ref sig .tc := ⟨.hbm, 119, rfl⟩
abbrev main_cst_26 : Ref sig .tc := ⟨.hbm, 120, rfl⟩
abbrev main_cst_27 : Ref sig .tc := ⟨.hbm, 121, rfl⟩
abbrev main_v89 : Ref sig .tc := ⟨.hbm, 122, rfl⟩
abbrev main_v90 : Ref sig .tc := ⟨.hbm, 123, rfl⟩
abbrev main_cst_28 : Ref sig .tc := ⟨.hbm, 124, rfl⟩
abbrev main_v91 : Ref sig .tc := ⟨.hbm, 125, rfl⟩
abbrev main_cst_29 : Ref sig .tc := ⟨.hbm, 126, rfl⟩
abbrev main_cst_30 : Ref sig .tc := ⟨.hbm, 127, rfl⟩
abbrev main_cst_31 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩

abbrev nD : Nat := 1
abbrev τ : Topo := Topo.v7x

variable {F : FTy → Type} [FloatOps F]
-- ==== Proof.Gather.lean ====
module

public import Idealize.ShloMosaic.Lib.ValueLayout
public import Idealize.ShloMosaic.Lib.VecWindow
public import Idealize.ShloMosaic.Lib.ViewIndex

/-! # Three planes of a prediction map, stacked

The kernel copies, for each of the three anchors, one channel plane of a prediction map `[16, 255, h, w]` into a slot of a
scratch `[3, 16, h, w]`, and reads the scratch back whole. This file says what it then reads, for any `h` and `w`. -/

@[expose] public section

noncomputable section

namespace Cert.Loss

open Idealize.ShloMosaic Idealize.ShloMosaic.ValueIdx

variable {α : Type} {Val : EltTy → Type} {sig : RefSig} {κ : Kind} {sp : Space} {e : EltTy} {h w : ℕ}

/-- A prediction map: batch, channel, row, column. -/
abbrev Field (h w : ℕ) : Shape := ⟨4, ![16, 255, h, w]⟩
/-- The stacked planes: anchor, batch, row, column. -/
abbrev Anchors (h w : ℕ) : Shape := ⟨4, ![3, 16, h, w]⟩
/-- One plane: batch, row, column. -/
abbrev Plane (h w : ℕ) : Shape := ⟨3, ![16, h, w]⟩

/-- The channel anchor `a`'s objectness sits at: 85 channels to an anchor, the objectness the fifth of them. -/
def channel (a : Fin 3) : Fin 255 := ⟨4 + 85 * a.val, by omega⟩

/-- The objectness planes of a map, stacked by anchor. -/
def gather (x : (Field h w).Idx → α) : (Anchors h w).Idx → α := fun i => x (ix4 (i 1) (channel (i 0)) (i 2) (i 3))

/-- The scratch after a write into its slot `o`: the payload in the slot, the old contents elsewhere. -/
theorem read_write_slot (v : View sig κ sp (Anchors h w) e) {o : ℕ}
    (inb : ∀ a, (![o, 0, 0, 0] : Fin 4 → ℕ) a + (![1, 16, h, w] : Fin 4 → ℕ) a ≤ (Anchors h w).size a)
    (hn : (Plane h w).numel = (⟨4, ![1, 16, h, w]⟩ : Shape).numel)
    (f : v.ty.Contents Val) (p : (Plane h w).Idx → Val e) (a : Fin 3) (b : Fin 16) (y : Fin h) (x : Fin w) :
    v.read Val (((v.slice (Rect.unit ![o, 0, 0, 0] ![1, 16, h, w] inb)).reshape (Plane h w) hn).write Val f p Finset.univ) (ix4 a b y x)
      = if a.val = o then p (ix3 b y x) else v.read Val f (ix4 a b y x) := by
  split_ifs with ha
  · have he : (Rect.unit (s := Anchors h w) ![o, 0, 0, 0] ![1, 16, h, w] inb).emb (ix4 (⟨0, Nat.one_pos⟩ : Fin 1) b y x) = ix4 a b y x := by
      funext k
      apply Fin.ext
      match k with
      | ⟨0, _⟩ => show o + 1 * 0 = a.val; omega
      | ⟨1, _⟩ => show 0 + 1 * b.val = b.val; omega
      | ⟨2, _⟩ => show 0 + 1 * y.val = y.val; omega
      | ⟨3, _⟩ => show 0 + 1 * x.val = x.val; omega
    have hx : (((v.slice (Rect.unit ![o, 0, 0, 0] ![1, 16, h, w] inb)).reshape (Plane h w) hn).emb (ix3 b y x)) = v.emb (ix4 a b y x) := by
      show v.emb ((Rect.unit ![o, 0, 0, 0] ![1, 16, h, w] inb).emb (Shape.reshapeEquiv hn (ix3 b y x))) = v.emb (ix4 a b y x)
      rw [reshapeEquiv_ix3_1abc, he]
    rw [View.read_apply, ← hx, View.write_emb_of_mem _ _ (Finset.mem_univ _), cast_cast, cast_eq]
  · refine View.read_congr_at _ (View.write_of_not_mem _ _ _ fun hm => ha ?_)
    obtain ⟨j, -, hj⟩ := Finset.mem_map.mp hm
    have hj' := v.emb.injective (show v.emb ((Rect.unit ![o, 0, 0, 0] ![1, 16, h, w] inb).emb (Shape.reshapeEquiv hn j)) = v.emb (ix4 a b y x) from hj)
    have h0 : ((Shape.reshapeEquiv hn j) 0).val < 1 := ((Shape.reshapeEquiv hn j) 0).isLt
    have h1 : o + 1 * ((Shape.reshapeEquiv hn j) 0).val = a.val := congrArg (fun i => (i 0).val) hj'
    omega

/-- A plane read off a map: the map at the plane's channel. -/
theorem read_plane (v : View sig κ sp (Field h w) e) (a : Fin 3) {o : ℕ} (ho : o = 4 + 85 * a.val)
    (inb : ∀ k, (![0, o, 0, 0] : Fin 4 → ℕ) k + (![16, 1, h, w] : Fin 4 → ℕ) k ≤ (Field h w).size k)
    (hn : (Plane h w).numel = (⟨4, ![16, 1, h, w]⟩ : Shape).numel)
    (f : v.ty.Contents Val) (b : Fin 16) (y : Fin h) (x : Fin w) :
    ((v.slice (Rect.unit ![0, o, 0, 0] ![16, 1, h, w] inb)).reshape (Plane h w) hn).read Val f (ix3 b y x)
      = v.read Val f (ix4 b (channel a) y x) := by
  have hr : Shape.reshapeEquiv hn (ix3 b y x) = ix4 b (⟨0, Nat.one_pos⟩ : Fin 1) y x :=
    Shape.reshapeEquiv_eq_of_rowMajor hn (by
      rw [Shape.rowMajor_val_four, Shape.rowMajor_val_three]
      show (((b.val * 1 + 0) * h + y.val) * w + x.val) = (b.val * h + y.val) * w + x.val
      simp only [Nat.mul_one, Nat.add_zero])
  show cast _ (f (v.emb ((Rect.unit ![0, o, 0, 0] ![16, 1, h, w] inb).emb (Shape.reshapeEquiv hn (ix3 b y x))))) = cast _ (f (v.emb _))
  have he : (Rect.unit ![0, o, 0, 0] ![16, 1, h, w] inb).emb (ix4 b (⟨0, Nat.one_pos⟩ : Fin 1) y x) = ix4 b (channel a) y x := by
    funext k
    apply Fin.ext
    match k with
    | ⟨0, _⟩ => show 0 + 1 * b.val = b.val; omega
    | ⟨1, _⟩ => show o + 1 * 0 = 4 + 85 * a.val; omega
    | ⟨2, _⟩ => show 0 + 1 * y.val = y.val; omega
    | ⟨3, _⟩ => show 0 + 1 * x.val = x.val; omega
  rw [hr, he]

/-- The scratch read whole after the three copies: the map's objectness planes, whatever it held before. -/
theorem read_three_planes {sig' : RefSig} {κ' : Kind} {sp' : Space} (v : View sig κ sp (Anchors h w) e) (u : View sig' κ' sp' (Field h w) e)
    (inb0 : ∀ a, (![0, 0, 0, 0] : Fin 4 → ℕ) a + (![1, 16, h, w] : Fin 4 → ℕ) a ≤ (Anchors h w).size a)
    (inb1 : ∀ a, (![1, 0, 0, 0] : Fin 4 → ℕ) a + (![1, 16, h, w] : Fin 4 → ℕ) a ≤ (Anchors h w).size a)
    (inb2 : ∀ a, (![2, 0, 0, 0] : Fin 4 → ℕ) a + (![1, 16, h, w] : Fin 4 → ℕ) a ≤ (Anchors h w).size a)
    (hn : (Plane h w).numel = (⟨4, ![1, 16, h, w]⟩ : Shape).numel)
    (inc0 : ∀ a, (![0, 4, 0, 0] : Fin 4 → ℕ) a + (![16, 1, h, w] : Fin 4 → ℕ) a ≤ (Field h w).size a)
    (inc1 : ∀ a, (![0, 89, 0, 0] : Fin 4 → ℕ) a + (![16, 1, h, w] : Fin 4 → ℕ) a ≤ (Field h w).size a)
    (inc2 : ∀ a, (![0, 174, 0, 0] : Fin 4 → ℕ) a + (![16, 1, h, w] : Fin 4 → ℕ) a ≤ (Field h w).size a)
    (hm : (Plane h w).numel = (⟨4, ![16, 1, h, w]⟩ : Shape).numel)
    (inw : ∀ a, (![0, 0, 0, 0] : Fin 4 → ℕ) a + (Anchors h w).size a ≤ (Anchors h w).size a)
    (f : v.ty.Contents Val) (g : u.ty.Contents Val) :
    v.readAt Val (Rect.unit ![0, 0, 0, 0] (Anchors h w).size inw).toLoadRect
      (((v.slice (Rect.unit ![2, 0, 0, 0] ![1, 16, h, w] inb2)).reshape (Plane h w) hn).write Val
        (((v.slice (Rect.unit ![1, 0, 0, 0] ![1, 16, h, w] inb1)).reshape (Plane h w) hn).write Val
          (((v.slice (Rect.unit ![0, 0, 0, 0] ![1, 16, h, w] inb0)).reshape (Plane h w) hn).write Val f
            (((u.slice (Rect.unit ![0, 4, 0, 0] ![16, 1, h, w] inc0)).reshape (Plane h w) hm).read Val g) Finset.univ)
          (((u.slice (Rect.unit ![0, 89, 0, 0] ![16, 1, h, w] inc1)).reshape (Plane h w) hm).read Val g) Finset.univ)
        (((u.slice (Rect.unit ![0, 174, 0, 0] ![16, 1, h, w] inc2)).reshape (Plane h w) hm).read Val g) Finset.univ)
      = gather (u.read Val g) := by
  rw [View.readAt_full]
  funext i
  refine (congrArg _ (eq_ix4 i)).trans (?_ : _ = u.read Val g (ix4 (i 1) (channel (i 0)) (i 2) (i 3)))
  have key : ∀ (a : Fin 3) (b : Fin 16) (y : Fin h) (x : Fin w), v.read Val
      (((v.slice (Rect.unit ![2, 0, 0, 0] ![1, 16, h, w] inb2)).reshape (Plane h w) hn).write Val
        (((v.slice (Rect.unit ![1, 0, 0, 0] ![1, 16, h, w] inb1)).reshape (Plane h w) hn).write Val
          (((v.slice (Rect.unit ![0, 0, 0, 0] ![1, 16, h, w] inb0)).reshape (Plane h w) hn).write Val f
            (((u.slice (Rect.unit ![0, 4, 0, 0] ![16, 1, h, w] inc0)).reshape (Plane h w) hm).read Val g) Finset.univ)
          (((u.slice (Rect.unit ![0, 89, 0, 0] ![16, 1, h, w] inc1)).reshape (Plane h w) hm).read Val g) Finset.univ)
        (((u.slice (Rect.unit ![0, 174, 0, 0] ![16, 1, h, w] inc2)).reshape (Plane h w) hm).read Val g) Finset.univ) (ix4 a b y x)
      = u.read Val g (ix4 b (channel a) y x) := by
    intro a b y x
    rw [read_write_slot, read_write_slot, read_write_slot]
    split_ifs with h2 h1 h0
    · exact read_plane u a (by omega) inc2 hm g b y x
    · exact read_plane u a (by omega) inc1 hm g b y x
    · exact read_plane u a (by omega) inc0 hm g b y x
    · omega
  exact key (i 0) (i 1) (i 2) (i 3)

end Cert.Loss

end
-- ==== Proof.Setup.lean ====
module

public import proofs.«01_k».proof.Proof.Gen.KernelIdeal.Frame
public import proofs.«01_k».proof.Proof.Gen.KernelIdeal.Skeleton
public import proofs.«01_k».proof.Proof.Gather
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.CellWrites

/-! # The launch's set-up

The kernel leaves its three prediction maps in HBM and copies planes of them itself, on nine semaphores of its own. This file
names the buffers the body is called with, its semaphores and the arrays it reads, and lists the invariant the launch keeps
about them. The one host line after the region reshapes the first result. -/

@[expose] public section

set_option maxRecDepth 16384

noncomputable section

namespace Cert.KernelIdeal.Loss

open Cert.KernelIdeal.Gen Cert.Loss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- Each window's current staging memref at point `t`, spelled as the pipeline passes it (`bodyAt0`), and its wholeness. -/
abbrev stage0 (t : Fin cfg0.N) : Memref sig .tc .smem S1 .f32 := win0_0.stage (cfg0.slots t 0)
abbrev stage0_whole (t : Fin cfg0.N) : (stage0 t).IsWhole := hstage0_0 0
abbrev stage1 (t : Fin cfg0.N) : Memref sig .tc .smem S5 .f32 := win0_1.stage (cfg0.slots t 1)
abbrev stage1_whole (t : Fin cfg0.N) : (stage1 t).IsWhole := hstage0_1 0
/-- The scratch operands: whole scoped buffers of the kernel's own, passed beside the windows. -/
abbrev scratch0 : Memref sig .tc .vmem S3x16x64x64 .f32 := Memref.whole cc0_scratch0
abbrev scratch1 : Memref sig .tc .vmem S3x16x32x32 .f32 := Memref.whole cc0_scratch1
abbrev scratch2 : Memref sig .tc .vmem S3x16x16x16 .f32 := Memref.whole cc0_scratch2
/-- The operands left in HBM that the body copies into scratch itself, whole. -/
abbrev map0 : Memref sig .tc .hbm S16x255x64x64 .f32 := Memref.whole main_arg0
abbrev map1 : Memref sig .tc .hbm S16x255x32x32 .f32 := Memref.whole main_arg1
abbrev map2 : Memref sig .tc .hbm S16x255x16x16 .f32 := Memref.whole main_arg2
/-- The contents of memref `M`'s buffer on core `c`. -/
abbrev Held (c : Dev nD) {sp : Space} {S : Shape} {e : EltTy} (M : Memref sig .tc sp S e) : Type := Buf (Elt F) (M.view.loc (c : Thread nD τ))
/-- Memref `M`'s buffer on core `c`, owned whole at contents `f`. -/
abbrev holds (c : Dev nD) {sp : Space} {S : Shape} {e : EltTy} (M : Memref sig .tc sp S e) (f : Held (F := F) c M) : sProp 𝕄 :=
  M.view.loc (c : Thread nD τ) ↦{fullShare} f

/-- The body's own DMA semaphores, cell by cell (their numbers in the pool). -/
abbrev ownSems : Fin 9 → SemLoc sig := fun j => (![SemLoc.dma 2, SemLoc.dma 3, SemLoc.dma 4, SemLoc.dma 5, SemLoc.dma 6, SemLoc.dma 7, SemLoc.dma 8, SemLoc.dma 9, SemLoc.dma 10] : Fin 9 → SemLoc sig) j
/-- None of them is a window's. -/
theorem ownSems_facts : Pipeline.OwnSemFacts spec0 ownSems := by decide
/-- The nine cells at zero. -/
def cellsZero (c : Dev nD) : sProp 𝕄 :=
  iprop(semVal ((c : Thread nD τ), SemLoc.dma 2) 0 ∗ semVal ((c : Thread nD τ), SemLoc.dma 3) 0 ∗ semVal ((c : Thread nD τ), SemLoc.dma 4) 0
    ∗ semVal ((c : Thread nD τ), SemLoc.dma 5) 0 ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0 ∗ semVal ((c : Thread nD τ), SemLoc.dma 10) 0)
/-- The body's own semaphores at zero are those cells at zero. -/
theorem ownSems_zero_eq (c : Dev nD) :
    (Pipeline.ownSems0 (Ix := Unit) (Name := ℕ) (U := Pipeline.UD sig nD τ) (Lvl := ℕ) (Val := Elt F) (τ := τ) ownSems c : sProp 𝕄) = cellsZero c := by
  rw [Pipeline.ownSems0_eq_of_list c ownSems [0, 1, 2, 3, 4, 5, 6, 7, 8] (by decide) (by decide)]; rfl
/-- The HBM operands the body moves, as references. -/
def readArrays : Finset (Ref sig .tc) := {main_arg0, main_arg1, main_arg2}
/-- They are unscoped and no window's array. -/
theorem readArrays_sub : readArrays ⊆ Pipeline.restRefs sig spec0 := by decide
/-- The lines after the region touch none of the operands the body moves: each operation's buffers are unscoped
    TensorCore references, none of them in `readArrays` (`Pipeline.sub_tailRefsBut`). -/
theorem tail_avoids : ∀ ops ∈ ([hostOps1] : List (List (HloOp τ sig (Elt F)))), ∀ op ∈ ops,
    op.bufs ⊆ Pipeline.tailRefsBut sig Pipeline.Prefetch.none spec0 readArrays := by
  intro ops hops op hop
  simp only [List.mem_cons, List.mem_nil_iff, or_false] at hops
  rcases hops with rfl
  · refine Pipeline.sub_tailRefsBut Pipeline.Prefetch.none spec0 readArrays op ((List.forall_iff_forall_mem.mp hostOps1_sub) op hop) (fun j => j.elim0) ?_
    simp only [hostOps1, List.mem_cons, List.mem_nil_iff, or_false] at hop
    rcases hop with rfl
    all_goals intro b hb; simp only [readArrays, Finset.mem_insert, Finset.mem_singleton] at hb
    all_goals rcases hb with rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem readArrays_eq (c : Dev nD) :
    (bigSep readArrays (fun b => ((c : Thread nD τ).loc b) ↦{fullShare} V m c b) : sProp 𝕄) = iprop(holds c map0 (V m c main_arg0) ∗ holds c map1 (V m c main_arg1) ∗ holds c map2 (V m c main_arg2)) := by
  rw [BI.bigSep_eq_bigSepL_of_eq [main_arg0, main_arg1, main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem invariant_eq (c : Dev nD) :
    (Pipeline.ΦD ownSems spec0 readArrays (V m) c : sProp 𝕄)
      = iprop(iprop((∃ d, owns (c : Thread nD τ) scratch0 fullShare d) ∗ (∃ d, owns (c : Thread nD τ) scratch1 fullShare d)
            ∗ (∃ d, owns (c : Thread nD τ) scratch2 fullShare d))
          ∗ (∃ r, prngReg c r) ∗ cellsZero c
          ∗ iprop(holds c map0 (V m c main_arg0) ∗ holds c map1 (V m c main_arg1) ∗ holds c map2 (V m c main_arg2))) := by
  rw [Pipeline.ΦD_eq, scopedRest0_eq, ownSems_zero_eq, readArrays_eq]; simp only [scratch0, scratch1, scratch2, owns_whole]; rfl

set_option maxHeartbeats 800000 in
/-- @main around the region, at the certificate's variants `𝒱₀`: the host lines before it, the region, the host lines
    after it (`Pipeline.hmain_around`, off `main_chain`): it reduces to the region CONTINUED BY the later lines. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

end Cert.KernelIdeal.Loss

end
-- ==== Proof.Run.lean ====
module

public import proofs.«01_k».proof.Proof.Setup

/-! # The body

The body starts nine copies, three planes of each prediction map into the slots of a scratch, waits for all nine, loads each
scratch whole and stores two results in scalar memory: the total loss, and a list of five numbers. This file names the
results as functions of the three maps and proves the body's triple with them. -/

@[expose] public section

set_option maxRecDepth 16384

noncomputable section

namespace Cert.KernelIdeal.Loss

open Cert.KernelIdeal.Gen Cert.Loss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's objectness loss: its payload at the three maps' stacked objectness planes. -/
def objectness (x0 : S16x255x64x64.Idx → F .f32) (x1 : S16x255x32x32.Idx → F .f32) (x2 : S16x255x16x16.Idx → F .f32) : F .f32 :=
  k0_pay4 (k0_pay3 (k0_pay1 (gather x0)) (k0_pay2 (gather x0)) (gather x1)) (gather x2)

/-- The kernel's total loss. -/
def total (x0 : S16x255x64x64.Idx → F .f32) (x1 : S16x255x32x32.Idx → F .f32) (x2 : S16x255x16x16.Idx → F .f32) : F .f32 :=
  k0_pay5 (k0_pay3 (k0_pay1 (gather x0)) (k0_pay2 (gather x0)) (gather x1)) (gather x2)

/-- The kernel's list of losses: the objectness at 1, the total at 4, zero elsewhere. -/
def items (x0 : S16x255x64x64.Idx → F .f32) (x1 : S16x255x32x32.Idx → F .f32) (x2 : S16x255x16x16.Idx → F .f32) : S5.Idx → F .f32 :=
  fun i => if (i 0).val = 4 then total x0 x1 x2 else if (i 0).val = 1 then objectness x0 x1 x2 else FloatOps.ofBits .f32 0#32

/-- A one-word buffer reads the word stored in it. -/
theorem read_one {sg : RefSig} {κ : Kind} {sp : Space} (v : View sg κ sp S1 .f32) (f : v.ty.Contents (Elt F)) (t t' : F .f32) (ht : t = t') :
    v.read (Elt F) (v.writes (Elt F) f [⟨Rect.unit ![0] S1.size inb_S1_S1_0, fun _ => t⟩]) = fun _ => t' := by
  subst ht
  funext y
  refine (View.read_writes_cons_cell v f _ t [] y).trans (if_pos ?_)
  have := (y 0).isLt
  exact Nat.lt_one_iff.mp this

/-- A five-word buffer after the five stores: the objectness at 1, the total at 4, the constant elsewhere. -/
theorem read_five {sg : RefSig} {κ : Kind} {sp : Space} (v : View sg κ sp S5 .f32) (f : v.ty.Contents (Elt F)) (z t t' o o' : F .f32)
    (ht : t = t') (ho : o = o') :
    v.read (Elt F) (v.writes (Elt F) f
      [⟨Rect.unit ![4] ![1] inb_S5_S1_4, fun _ => t⟩, ⟨Rect.unit ![3] S1.size inb_S5_S1_3, fun _ => z⟩,
        ⟨Rect.unit ![2] S1.size inb_S5_S1_2, fun _ => z⟩, ⟨Rect.unit ![1] S1.size inb_S5_S1_1, fun _ => o⟩,
        ⟨Rect.unit ![0] S1.size inb_S5_S1_0, fun _ => z⟩])
      = fun i => if (i 0).val = 4 then t' else if (i 0).val = 1 then o' else z := by
  subst ht ho
  funext y
  have h5 : (y 0).val < 5 := (y 0).isLt
  refine (View.read_writes_cons_cell v f _ t _ y).trans ?_
  refine ite_congr rfl (fun _ => rfl) fun h4 => ?_
  refine (View.read_writes_cons_cell v f _ z _ y).trans ?_
  rw [View.read_writes_cons_cell v f _ z, View.read_writes_cons_cell v f _ o, View.read_writes_cons_cell v f _ z]
  replace h4 : (y 0).val ≠ 4 := h4
  show (if (y 0).val = 3 then z else if (y 0).val = 2 then z else if (y 0).val = 1 then o else if (y 0).val = 0 then z else _) = _
  split_ifs <;> first | rfl | omega

/-- The first two scales' part of the objectness depends on the two stacked arrays only. -/
theorem pay3_congr {a a' : S3x16x64x64.Idx → F .f32} {b b' : S3x16x32x32.Idx → F .f32} (ha : a = a') (hb : b = b') :
    k0_pay3 (k0_pay1 a) (k0_pay2 a) b = k0_pay3 (k0_pay1 a') (k0_pay2 a') b' := by
  subst ha hb; rfl

set_option maxHeartbeats 4000000 in
set_option sl_exec.dmaWindow true in
set_option sl_exec.dmaWindowSet true in
/-- THE BODY'S TRIPLE: given its two output buffers, its three scratch buffers, its nine semaphores at zero and the three maps,
    the body runs to its end, leaves the total and the list of losses in its outputs, and gives everything else back. -/
theorem body_run (c : Dev nD) (arg3 : Memref sig .tc .smem S1 .f32) (harg3 : arg3.IsWhole) (arg4 : Memref sig .tc .smem S5 .f32) (harg4 : arg4.IsWhole)
    (arg5 : Memref sig .tc .vmem S3x16x64x64 .f32) (harg5 : arg5.IsWhole) (arg6 : Memref sig .tc .vmem S3x16x32x32 .f32) (harg6 : arg6.IsWhole)
    (arg7 : Memref sig .tc .vmem S3x16x16x16 .f32) (harg7 : arg7.IsWhole)
    (x0 : Held (F := F) c map0) (x1 : Held (F := F) c map1) (x2 : Held (F := F) c map2) (W : Waits sig Unit) (K : PUnit → sProp 𝕄) :
    iprop((∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ cellsZero c ∗ holds c map0 x0 ∗ holds c map1 x1 ∗ holds c map2 x2 ∗ owes (c : Thread nD τ) 0 W
        ∗ (iprop(owns (c : Thread nD τ) arg3 fullShare (fun _ => total x0 x1 x2) ∗ owns (c : Thread nD τ) arg4 fullShare (items x0 x1 x2)
            ∗ (∃ d, owns (c : Thread nD τ) arg5 fullShare d) ∗ (∃ d, owns (c : Thread nD τ) arg6 fullShare d) ∗ (∃ d, owns (c : Thread nD τ) arg7 fullShare d)
            ∗ cellsZero c ∗ holds c map0 x0 ∗ holds c map1 x1 ∗ holds c map2 x2 ∗ ∃ W', owes (c : Thread nD τ) 0 W') -∗ K ⟨⟩))
      ⊢ wp frame (wpE (defs₀ (F := F)) Variants.none c none) Set.univ
          (cc0__loss_body (Memref.whole main_arg0) (Memref.isWhole_whole _) (Memref.whole main_arg1) (Memref.isWhole_whole _)
            (Memref.whole main_arg2) (Memref.isWhole_whole _) arg3 harg3 arg4 harg4 arg5 harg5 arg6 harg6 arg7 harg7 cc0_scratch3) K := by
  simp only [cc0__loss_body_eq_skeleton]; unfold cc0__loss_body_skel
  simp only [k0_part7_eq_skeleton, k0_part1_eq_skeleton, k0_part2_eq_skeleton, k0_part3_eq_skeleton, k0_part4_eq_skeleton, k0_part5_eq_skeleton, k0_part6_eq_skeleton]
  unfold owns cellsZero
  iintro ⟨⟨%d0, %f0, -, H0⟩, ⟨%d1, %f1, -, H1⟩, ⟨%ds0, %fs0, -, HS0⟩, ⟨%ds1, %fs1, -, HS1⟩, ⟨%ds2, %fs2, -, HS2⟩, ⟨Hq0, Hq1, Hq2, Hq3, Hq4, Hq5, Hq6, Hq7, Hq8⟩, Hh0, Hh1, Hh2, HW, Hk⟩
  sl_exec
  sl_step
  iapply Hk
  have e0 := fun i0 i1 i2 hn c0 c1 c2 hm iw => read_three_planes (Val := Elt F) arg5.view map0.view i0 i1 i2 hn c0 c1 c2 hm iw fs0 x0
  have e1 := fun i0 i1 i2 hn c0 c1 c2 hm iw => read_three_planes (Val := Elt F) arg6.view map1.view i0 i1 i2 hn c0 c1 c2 hm iw fs1 x1
  have e2 := fun i0 i1 i2 hn c0 c1 c2 hm iw => read_three_planes (Val := Elt F) arg7.view map2.view i0 i1 i2 hn c0 c1 c2 hm iw fs2 x2
  isplitl [H0]
  · iexists _; isplitr; swap; · iexact H0
    ipureintro
    refine read_one _ _ _ _ ?_
    exact congrArg₂ k0_pay5 (pay3_congr (e0 _ _ _ _ _ _ _ _ _) (e1 _ _ _ _ _ _ _ _ _)) (e2 _ _ _ _ _ _ _ _ _)
  isplitl [H1]
  · iexists _; isplitr; swap; · iexact H1
    ipureintro
    refine read_five _ _ _ _ _ _ _ ?_ ?_
    · exact congrArg₂ k0_pay5 (pay3_congr (e0 _ _ _ _ _ _ _ _ _) (e1 _ _ _ _ _ _ _ _ _)) (e2 _ _ _ _ _ _ _ _ _)
    · exact congrArg₂ k0_pay4 (pay3_congr (e0 _ _ _ _ _ _ _ _ _) (e1 _ _ _ _ _ _ _ _ _)) (e2 _ _ _ _ _ _ _ _ _)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  isplitl [Hh1]; · iexact Hh1
  isplitl [Hh2]; · iexact Hh2
  iexists _; iexact HW

end Cert.KernelIdeal.Loss

end
-- ==== Proof.Launch.lean ====
module

public import proofs.«01_k».proof.Proof.Run
public import Idealize.ShloMosaic.Lib.Claim
public import Idealize.ShloMosaic.Lib.Pipeline.ValueKit

/-! # The launch

Every execution of the kernel's program ends with its two results at the values the body's file names, its arguments as
launched, and every semaphore counter at zero. -/

@[expose] public section

set_option maxRecDepth 16384

noncomputable section

namespace Cert.KernelIdeal.Loss

open Cert.KernelIdeal.Gen Cert.Loss
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Map `k` as core `c` was launched with it. -/
abbrev arg0 (c : Dev nD) : S16x255x64x64.Idx → F .f32 := m ((c : Thread nD τ).loc main_arg0)
abbrev arg1 (c : Dev nD) : S16x255x32x32.Idx → F .f32 := m ((c : Thread nD τ).loc main_arg1)
abbrev arg2 (c : Dev nD) : S16x255x16x16.Idx → F .f32 := m ((c : Thread nD τ).loc main_arg2)

/-- The launch's data: the two windows leave the total and the list of losses, the invariant is the same at every point. -/
def dats (_ : Fin 1) (c : Dev nD) : Dat τ (Elt F) Unit ℕ (Pipeline.UD sig nD τ) ℕ cfg0 c where
  A w := V m c (Pipeline.arrRef spec0 w)
  after w t := match w with
    | ⟨0, _⟩ => fun _ => total (arg0 m c) (arg1 m c) (arg2 m c)
    | ⟨1, _⟩ => items (arg0 m c) (arg1 m c) (arg2 m c)
  Φ _ := Pipeline.ΦD ownSems spec0 readArrays (V m) c
  q _ := fullShare
  owed _ := 0

/-- Its arrays are the contents the region finds. -/
theorem dats_A (c : Dev nD) (w : Fin cfg0.W) : (dats m 0 c).A w = V m c (Pipeline.arrRef spec0 w) := by
  dsimp only [dats]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before (0 : Fin 2) t d))
    ∗ (∃ d, owns (c : Thread nD τ) (stage1 t) fullShare ((dats m 0 c).before (1 : Fin 2) t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare (fun _ => total (arg0 m c) (arg1 m c) (arg2 m c))
    ∗ owns (c : Thread nD τ) (stage1 t) fullShare (items (arg0 m c) (arg1 m c) (arg2 m c)))

/-- The body's triple at the launch's invariant: the invariant hands the body its scratch, semaphores and maps, and takes them
    back as they were. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦD ownSems spec0 readArrays (V m) c from rfl, invariant_eq]
  unfold Dat.owesAt Pipeline.owesWithin
  rw [show (dats m 0 c).owed t.castSucc = 0 from rfl, show (dats m 0 c).owed t.succ = 0 from rfl]
  iintro ⟨⟨⟨HS0, HS1, HS2⟩, Hg, Hq, ⟨Hh0, Hh1, Hh2⟩⟩, ⟨%W, -, HW⟩, ⟨%d0, H0⟩, ⟨%d1, H1⟩⟩
  iapply (body_run c _ _ _ _ _ _ _ _ _ _ (arg0 m c) (arg1 m c) (arg2 m c) W _)
  isplitl [H0]; · iexists _; iexact H0
  isplitl [H1]; · iexists _; iexact H1
  isplitl [HS0]; · iexact HS0
  isplitl [HS1]; · iexact HS1
  isplitl [HS2]; · iexact HS2
  isplitl [Hq]; · iexact Hq
  isplitl [Hh0]; · iexact Hh0
  isplitl [Hh1]; · iexact Hh1
  isplitl [Hh2]; · iexact Hh2
  isplitl [HW]; · iexact HW
  iintro ⟨H0, H1, HS0, HS1, HS2, Hq, Hh0, Hh1, Hh2, ⟨%W', HW'⟩⟩
  isplitl [HS0 HS1 HS2 Hg Hq Hh0 Hh1 Hh2]
  · isplitl [HS0 HS1 HS2]
    · isplitl [HS0]; · iexact HS0
      isplitl [HS1]; · iexact HS1
      iexact HS2
    isplitl [Hg]; · iexact Hg
    isplitl [Hq]; · iexact Hq
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  iexact H1

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

set_option backward.isDefEq.respectTransparency.types false in
set_option maxHeartbeats 800000 in
/-- The launch's own post: the arrays as the data says, the rest as the host line leaves it, the counters at zero. -/
theorem launch_run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSems defs₀ Variants.none ownSems_facts readArrays readArrays_sub m ρ main
    (hbody := fun c => (body_obligation m c).loose) (hshare := fun c => (dats m 0 c).share_full fun _ => rfl)
    (howed := fun _ _ => rfl) (V₀ := V0 m) (opss := [hostOps1]) (hsub := tail_avoids) (hfresh := sfx_fresh) (hkeep := sfx_keeps)
    (hmain := main_around m Variants.none) (hA := dats_A m) (hin := fun _ => .rfl) (hout := fun _ => .rfl)

/-- The first window's array ends at the total, -/
theorem final0 (c : Dev nD) : (dats m 0 c).arrAt (0 : Fin 2) cfg0.N = fun _ => total (arg0 m c) (arg1 m c) (arg2 m c) := by
  refine (dats m 0 c).arrAt_eq_of_after_last (0 : Fin 2) t0_0 (by decide +kernel) _ fun j => ?_
  rfl

/-- and the second's at the list of losses. -/
theorem final1 (c : Dev nD) : (dats m 0 c).arrAt (1 : Fin 2) cfg0.N = items (arg0 m c) (arg1 m c) (arg2 m c) := by
  refine (dats m 0 c).arrAt_eq_of_after_last (1 : Fin 2) t0_0 (by decide +kernel) _ fun j => ?_
  rfl

/-- The host line after the region leaves alone whatever is neither its result nor a window's array. -/
theorem tail_other (c : Dev nD) (b : Ref sig .tc) (hb : b ≠ main_v0_0) (hw : ∀ w, Pipeline.arrRef spec0 w ≠ b) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]
  rfl

/-- Its result is the total. -/
theorem tail_result (c : Dev nD) :
    Pipeline.afterTail₀ cfgs (dats m) 0 (V0 m) [hostOps1] c main_v0_0 = fun _ => total (arg0 m c) (arg1 m c) (arg2 m c) := by
  unfold Pipeline.afterTail₀
  simp only [hostOps1, List.flatten_cons, List.flatten_nil, List.append_nil]
  after_results
  have h : Pipeline.withArrays spec0 c (V0 m c) (fun w => (dats m 0 c).arrAt w cfg0.N) (Proc.devRef .tc main_call0_v0_0)
      = fun _ => total (arg0 m c) (arg1 m c) (arg2 m c) :=
    (Pipeline.withArrays_arr spec0 winFacts0.arr_inj c (V0 m c) (fun w => (dats m 0 c).arrAt w cfg0.N) (0 : Fin 2)).trans (final0 m c)
  rw [h]
  rfl

/-- THE KERNEL'S RUN: every execution ends, with the two results at the total and the list of losses, the arguments as launched,
    and every counter at zero. -/
theorem run : θ_run defs (onTc (τ := τ) (main (F := F))) ⟨m, fun _ => 0, ρ⟩ (fun r => (∀ c : Dev nD,
      r.2.mem ((c.tc : Thread nD τ).loc main_v0_0) = (fun _ => total (arg0 m c) (arg1 m c) (arg2 m c))
      ∧ r.2.mem ((c.tc : Thread nD τ).loc main_v0_1) = items (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (launch_run m ρ)
  have rest := fun b hb => (h.1 c).2 b hb
  have other := fun b (hr : b ∈ Pipeline.restRefs sig spec0) hb hw => (rest b hr).trans (tail_other m c b hb hw)
  exact ⟨(rest main_v0_0 (by decide)).trans (tail_result m c), ((h.1 c).1 (1 : Fin 2)).trans (final1 m c),
    other main_arg0 (by decide) (by decide) (by decide), other main_arg1 (by decide) (by decide) (by decide),
    other main_arg2 (by decide) (by decide) (by decide), other main_arg3 (by decide) (by decide) (by decide)⟩

end Cert.KernelIdeal.Loss

end
-- ==== Proof.Focal.lean ====
module

public import Idealize.ShloMosaic.PureOps.Ideal.Laws
public import Idealize.ShloMosaic.Lib.IdealHost

/-! # One logit's loss on the extended reals

Both programs turn a logit into a cross-entropy against the target zero, and weigh it by the square of one minus its
exponential. They spell it differently: one subtracts the logit times zero, squares by a power and puts the factor a quarter
before each term, the other squares by a product and multiplies the sum of the terms by a quarter. -/

@[expose] public section

noncomputable section

namespace Cert.Loss

open Idealize.ShloMosaic

/-- The constants the two programs share. -/
theorem ofBits_quarter : Ideal.ofBits .f32 0x3E800000#32 = ((1 / 4 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Cross-entropy of the logit `x` against the target zero. -/
def crossEntropy (x : EReal) : EReal := max x 0 + Ideal.log1p (Ideal.exp (-max x (-x)))

/-- The unscaled focal loss of the logit `x`. -/
def focal (x : EReal) : EReal :=
  (1 - Ideal.exp (-crossEntropy x)) * (1 - Ideal.exp (-crossEntropy x)) * crossEntropy x

/-- An exponential is not negative. -/
theorem exp_nonneg (y : EReal) : 0 ≤ Ideal.exp y := by
  induction y using EReal.rec with
  | bot => simp
  | top => simp
  | coe r => rw [Ideal.exp_coe]; exact_mod_cast (Real.exp_pos r).le

/-- The logarithm of one plus something not negative is not negative. -/
theorem log1p_nonneg {y : EReal} (hy : 0 ≤ y) : 0 ≤ Ideal.log1p y := by
  induction y using EReal.rec with
  | bot => simp at hy
  | top => rw [Ideal.log1p, EReal.add_top_of_ne_bot (show (1 : EReal) ≠ ⊥ from EReal.coe_ne_bot 1), Ideal.log_top]; exact le_top
  | coe r =>
    have hr : (0 : ℝ) ≤ r := by exact_mod_cast hy
    have h1 : (1 : EReal) + (r : EReal) = ((1 + r : ℝ) : EReal) := by push_cast; rfl
    rw [Ideal.log1p, h1, Ideal.log_coe, if_neg (by linarith)]
    exact_mod_cast Real.log_nonneg (by linarith : (1 : ℝ) ≤ 1 + r)

/-- A cross-entropy is not negative. -/
theorem crossEntropy_nonneg (x : EReal) : 0 ≤ crossEntropy x :=
  add_nonneg (le_max_right x 0) (log1p_nonneg (exp_nonneg _))

/-- So one minus the exponential of its negative is not minus infinity. -/
theorem weight_ne_bot (x : EReal) : 1 - Ideal.exp (-crossEntropy x) ≠ ⊥ := by
  have h := crossEntropy_nonneg x
  generalize crossEntropy x = b at h
  induction b using EReal.rec with
  | bot => simp at h
  | top => rw [EReal.neg_top, Ideal.exp_bot, sub_zero]; exact EReal.coe_ne_bot 1
  | coe r =>
    rw [← EReal.coe_neg, Ideal.exp_coe]
    exact_mod_cast EReal.coe_ne_bot (1 - Real.exp (-r))

/-- Above minus infinity the power two is the square. -/
theorem pow_two_eq {a : EReal} (ha : a ≠ ⊥) : Ideal.pow a ((2 : ℝ) : EReal) = a * a := by
  induction a using EReal.rec with
  | bot => exact absurd rfl ha
  | top =>
    rw [Ideal.pow_top, if_pos (by exact_mod_cast two_pos), EReal.top_mul_top]
  | coe r =>
    rw [Ideal.pow_coe_coe, ← EReal.coe_mul]
    congr 1
    exact (Real.rpow_two r).trans (sq r)

/-- Multiplying by a quarter distributes over a finite sum, whatever the terms. -/
theorem sum_quarter {ι : Type} [Fintype ι] (f : ι → EReal) :
    ∑ i, ((1 / 4 : ℝ) : EReal) * f i = ((1 / 4 : ℝ) : EReal) * ∑ i, f i := by
  have h0 : (0 : EReal) ≤ ((1 / 4 : ℝ) : EReal) := by exact_mod_cast (by norm_num : (0 : ℝ) ≤ 1 / 4)
  induction (Finset.univ : Finset ι) using Finset.cons_induction with
  | empty => simp
  | cons a s ha ih =>
    rw [Finset.sum_cons, Finset.sum_cons, ih, EReal.left_distrib_of_nonneg_of_ne_top h0 (EReal.coe_ne_top _)]

/-- The cross-entropy as the host spells it, with the logit times zero taken away. -/
theorem hostEntropy_eq (x : EReal) :
    max x 0 - x * 0 + Ideal.log1p (Ideal.exp (-max x (-x))) = crossEntropy x := by
  rw [mul_zero, sub_zero]; rfl

/-- The host's term is a quarter of the focal loss. -/
theorem hostFocal_eq (x : EReal) :
    ((1 / 4 : ℝ) : EReal) * Ideal.pow (1 - Ideal.exp (-crossEntropy x)) ((2 : ℝ) : EReal) * crossEntropy x
      = ((1 / 4 : ℝ) : EReal) * focal x := by
  rw [pow_two_eq (weight_ne_bot x), mul_assoc]; rfl

end Cert.Loss

end
-- ==== Proof.Scale.lean ====
module

public import proofs.«01_k».proof.Proof.Focal
public import proofs.«01_k».proof.Proof.Run

/-! # The kernel's losses on the extended reals

The kernel's objectness loss is a sum of three terms, one for each scale: a quarter of the sum of the focal losses of the
scale's gathered logits, divided by how many there are. -/

@[expose] public section

noncomputable section

namespace Cert.Loss

open Idealize.ShloMosaic Idealize.ShloMosaic.ValueIdx Cert.KernelIdeal.Gen Cert.KernelIdeal

/-- A scale's contribution: a quarter of the sum of the focal losses over the stacked planes, over the count `n`. -/
def contribution {h w : ℕ} (n : BitVec 32) (x : (Field h w).Idx → EReal) : EReal :=
  Ideal.div (((1 / 4 : ℝ) : EReal) * ∑ i, focal (gather x i)) (Ideal.ofBits .f32 n)

/-- The three scales' contributions, added from the left. -/
def lobj (x0 : (Field 64 64).Idx → EReal) (x1 : (Field 32 32).Idx → EReal) (x2 : (Field 16 16).Idx → EReal) : EReal :=
  contribution 0x48400000#32 x0 + contribution 0x47400000#32 x1 + contribution 0x46400000#32 x2

/-- The cross-entropies of an array of logits, spelt as the kernel spells them. -/
def kernelEntropy {s : Shape} (x : FVec Ideal s .f32) : FVec Ideal s .f32 :=
  addf (maximumf x (broadcast s (Scalar.ofBits .f32 0x00000000#32)))
    (log1p (exp (subf (broadcast s (Scalar.ofBits .f32 0x00000000#32)) (absf x))))

/-- Each is the cross-entropy of its logit. -/
theorem kernelEntropy_apply {s : Shape} (x : FVec Ideal s .f32) (i : s.Idx) : kernelEntropy x i = crossEntropy (x i) := by
  show max (x i) (Ideal.ofBits .f32 0x00000000#32) + Ideal.log1p (Ideal.exp (Ideal.ofBits .f32 0x00000000#32 - max (x i) (-x i))) = _
  rw [Ideal.ofBits_zero_f32, zero_sub]; rfl

/-- One minus the exponential of the negated cross-entropies, spelt as the kernel spells it. -/
def kernelWeight {s : Shape} (x : FVec Ideal s .f32) : FVec Ideal s .f32 :=
  subf (broadcast s (Scalar.ofBits .f32 0x3F800000#32))
    (exp (subf (broadcast s (Scalar.ofBits .f32 0x00000000#32)) (kernelEntropy x)))

/-- The focal losses of an array of logits, spelt as the kernel spells them. -/
def kernelFocal {s : Shape} (x : FVec Ideal s .f32) : FVec Ideal s .f32 :=
  mulf (mulf (kernelWeight x) (kernelWeight x)) (kernelEntropy x)

/-- Each is the focal loss of its logit. -/
theorem kernelFocal_apply {s : Shape} (x : FVec Ideal s .f32) (i : s.Idx) : kernelFocal x i = focal (x i) := by
  have hw : kernelWeight x i = 1 - Ideal.exp (-crossEntropy (x i)) := by
    show Ideal.ofBits .f32 0x3F800000#32 - Ideal.exp (Ideal.ofBits .f32 0x00000000#32 - kernelEntropy x i) = _
    rw [Ideal.ofBits_one_f32, Ideal.ofBits_zero_f32, zero_sub, kernelEntropy_apply]
  show kernelWeight x i * kernelWeight x i * kernelEntropy x i = _
  rw [hw, kernelEntropy_apply]; rfl

/-- Reducing a reshaped array to one word adds up the array. -/
theorem reduce_reshaped {s t : Shape} (x : FVec Ideal s .f32) (hc : s.ShapeCasts t) (axes : List (Fin t.rank))
    (hr : t.Reduces axes S1) (hp : S1.ShapeCasts S1x1x1x1x1) :
    extractAt ![0, 0, 0, 0, 0] (shapeCast S1x1x1x1x1
      (multiReduction .add axes S1 (shapeCast t x hc) 0x00000000#32 hr (.inl rfl) rfl) hp) inpos_S1x1x1x1x1_p0_0_0_0_0
      = ∑ i, x i := by
  have ht : ∀ b, S1.size b = 1 := fun b => match b with | ⟨0, _⟩ => rfl
  exact (Ideal.multiReduction_add_total (shapeCast t x hc) 0x00000000#32 hr ht (.inl rfl) rfl _).trans
    (Equiv.sum_comp (Shape.reshapeEquiv hc) x)

/-- A scale's contribution as the kernel computes it from the stacked planes `x`. -/
def kernelPart {s t : Shape} (n : BitVec 32) (x : FVec Ideal s .f32) (hc : s.ShapeCasts t) (axes : List (Fin t.rank))
    (hr : t.Reduces axes S1) : Ideal .f32 :=
  Scalar.divf (Scalar.mulf (Scalar.ofBits .f32 0x3E800000#32)
    (extractAt ![0, 0, 0, 0, 0] (shapeCast S1x1x1x1x1
      (multiReduction .add axes S1 (shapeCast t (kernelFocal x) hc) 0x00000000#32 hr (.inl rfl) rfl)
      shapeCasts_S1_S1x1x1x1x1) inpos_S1x1x1x1x1_p0_0_0_0_0)) (Scalar.ofBits .f32 n)

/-- On the gathered planes of a map it is the map's contribution. -/
theorem kernelPart_gather {h w : ℕ} {t : Shape} (n : BitVec 32) (x : (Field h w).Idx → EReal) (hc : (Anchors h w).ShapeCasts t)
    (axes : List (Fin t.rank)) (hr : t.Reduces axes S1) : kernelPart n (gather x) hc axes hr = contribution n x := by
  show Ideal.div (Ideal.ofBits .f32 0x3E800000#32 * extractAt _ _ _) _ = _
  rw [reduce_reshaped, ofBits_quarter, Finset.sum_congr rfl fun i _ => kernelFocal_apply (gather x) i]
  rfl

/-- The kernel's objectness loss is the sum of the three contributions. -/
theorem objectness_eq (x0 : (Field 64 64).Idx → EReal) (x1 : (Field 32 32).Idx → EReal) (x2 : (Field 16 16).Idx → EReal) :
    KernelIdeal.Loss.objectness (F := Ideal) x0 x1 x2 = lobj x0 x1 x2 := by
  show Ideal.ofBits .f32 0x00000000#32
      + kernelPart 0x48400000#32 (gather x0) shapeCasts_S3x16x64x64_S1x3x16x64x64 [1, 2, 3, 4] reduces_S1x3x16x64x64_S1
      + kernelPart 0x47400000#32 (gather x1) shapeCasts_S3x16x32x32_S1x3x16x32x32 [1, 2, 3, 4] reduces_S1x3x16x32x32_S1
      + kernelPart 0x46400000#32 (gather x2) shapeCasts_S3x16x16x16_S1x3x16x16x16 [1, 2, 3, 4] reduces_S1x3x16x16x16_S1 = _
  rw [kernelPart_gather, kernelPart_gather, kernelPart_gather, Ideal.ofBits_zero_f32, zero_add]
  rfl

/-- The kernel's total is three tenths of it, at most a hundred. -/
theorem total_eq (x0 : (Field 64 64).Idx → EReal) (x1 : (Field 32 32).Idx → EReal) (x2 : (Field 16 16).Idx → EReal) :
    KernelIdeal.Loss.total (F := Ideal) x0 x1 x2
      = min (lobj x0 x1 x2 * Ideal.ofBits .f32 0x3E99999A#32) (Ideal.ofBits .f32 0x42C80000#32) := by
  rw [← objectness_eq]; rfl

end Cert.Loss

end
-- ==== Proof.Logits.lean ====
module

public import proofs.«01_k».proof.Proof.Gather
public import Idealize.ShloMosaic.Lib.Pipeline.Value
public import Idealize.ShloMosaic.Lib.Pointwise.Index
public import Mathlib.Data.EReal.Operations

/-! # The logits by batch and anchor

The reference reshapes a prediction map to `[16, 3, 85, h, w]`, moves the 85 to the end and takes the fifth of them. This file
reads that array at an index, for any `h` and `w`, and compares its sum with the sum over the kernel's stacked planes. -/

@[expose] public section

noncomputable section

namespace Cert.Loss

open Idealize.ShloMosaic hiding ix4 ix5 eq_ix4
open Idealize.ShloMosaic.ValueIdx

/-- The logits of a scale as the reference lays them out: batch, anchor, row, column. -/
abbrev Logits (h w : ℕ) : Shape := ⟨4, ![16, 3, h, w]⟩

/-- The objectness logits of a map, by batch, then anchor. -/
def logits {α : Type} {h w : ℕ} (x : (Field h w).Idx → α) : (Logits h w).Idx → α :=
  fun i => x (ix4 (i 0) (channel (i 1)) (i 2) (i 3))

/-- The reference's reshape, transpose, slice and reshape of a map read off its objectness logits. -/
theorem reshaped_eq {α : Type} {h w : ℕ} (x : (Field h w).Idx → α)
    (hc : (Field h w).ShapeCasts ⟨5, ![16, 3, 85, h, w]⟩)
    (ht : (⟨5, ![16, 3, 85, h, w]⟩ : Shape).Transposes [0, 1, 3, 4, 2] ⟨5, ![16, 3, h, w, 85]⟩)
    (hs : (⟨5, ![16, 3, h, w, 85]⟩ : Shape).Slices ![0, 0, 0, 0, 4] ⟨5, ![16, 3, h, w, 1]⟩)
    (hd : (⟨5, ![16, 3, h, w, 1]⟩ : Shape).ShapeCasts (Logits h w)) :
    shapeCast (Logits h w) (extractStridedSlice ⟨5, ![16, 3, h, w, 1]⟩ ![0, 0, 0, 0, 4]
      (transpose ⟨5, ![16, 3, h, w, 85]⟩ [0, 1, 3, 4, 2] (shapeCast ⟨5, ![16, 3, 85, h, w]⟩ x hc) ht) hs) hd = logits x := by
  have key : ∀ (b : Fin 16) (a : Fin 3) (y : Fin h) (z : Fin w),
      shapeCast (Logits h w) (extractStridedSlice ⟨5, ![16, 3, h, w, 1]⟩ ![0, 0, 0, 0, 4]
        (transpose ⟨5, ![16, 3, h, w, 85]⟩ [0, 1, 3, 4, 2] (shapeCast ⟨5, ![16, 3, 85, h, w]⟩ x hc) ht) hs) hd (ix4 b a y z)
        = x (ix4 b (channel a) y z) := by
    intro b a y z
    rw [shapeCast_apply _ hd (ix4 b a y z) (ix5 b a y z (⟨0, Nat.one_pos⟩ : Fin 1)) (by
        rw [Shape.rowMajor_val_four, Shape.rowMajor_val_five]
        show ((((b.val * 3 + a.val) * h + y.val) * w + z.val) * 1 + 0) = ((b.val * 3 + a.val) * h + y.val) * w + z.val
        rw [Nat.mul_one, Nat.add_zero]),
      extractStridedSlice_apply _ _ hs _ (ix5 b a y z (⟨4, by decide⟩ : Fin 85)) (fun k => by
        match k with
        | ⟨0, _⟩ => exact (Nat.zero_add _).symm
        | ⟨1, _⟩ => exact (Nat.zero_add _).symm
        | ⟨2, _⟩ => exact (Nat.zero_add _).symm
        | ⟨3, _⟩ => exact (Nat.zero_add _).symm
        | ⟨4, _⟩ => rfl),
      transpose_apply _ _ ht _ (ix5 b a (⟨4, by decide⟩ : Fin 85) y z) (fun k => by
        match k with
        | ⟨0, _⟩ => rfl
        | ⟨1, _⟩ => rfl
        | ⟨2, _⟩ => rfl
        | ⟨3, _⟩ => rfl
        | ⟨4, _⟩ => rfl),
      shapeCast_apply _ hc _ (ix4 b (channel a) y z) (by
        rw [Shape.rowMajor_val_four, Shape.rowMajor_val_five]
        show ((b.val * 255 + (4 + 85 * a.val)) * h + y.val) * w + z.val = ((((b.val * 3 + a.val) * 85 + 4) * h + y.val) * w + z.val)
        rw [show b.val * 255 + (4 + 85 * a.val) = (b.val * 3 + a.val) * 85 + 4 by omega])]
  funext i
  exact (congrArg _ (eq_ix4 i)).trans (key (i 0) (i 1) (i 2) (i 3))

/-- Adding over the logits by batch and anchor or over the gathered planes by anchor and batch is the same. -/
theorem sum_logits {h w : ℕ} (f : EReal → EReal) (x : (Field h w).Idx → EReal) :
    ∑ i, f (logits x i) = ∑ i, f (gather x i) := by
  refine (sum_idx4 fun i => f (logits x i)).trans (Eq.trans ?_ (sum_idx4 fun i => f (gather x i)).symm)
  exact Finset.sum_comm

end Cert.Loss

end
-- ==== Proof.ReferenceRun.lean ====
module

public import proofs.«01_k».proof.Proof.Gen.ReferenceIdeal
public import proofs.«01_k».proof.Proof.Gen.ReferenceIdeal.Run
public import proofs.«01_k».proof.Proof.Gen.ReferenceIdeal.Read
public import proofs.«01_k».proof.Proof.Scale
public import proofs.«01_k».proof.Proof.Logits
public import Idealize.ShloMosaic.Lib.Pipeline.ValueKit.Tiles

/-! # What the reference computes on the extended reals

At each scale the reference reshapes a prediction map to `[16, 3, 85, h, w]`, moves the 85 to the end, takes the fifth of
them, turns each logit into a focal term and takes the mean. This file states, for any `h` and `w`, that the mean is the
contribution the kernel computes, and with it the reference's three numbers and two results. -/

@[expose] public section

noncomputable section

namespace Cert.Loss

open Idealize.ShloMosaic Cert.ReferenceIdeal Cert.ReferenceIdeal.Gen Cert.ReferenceIdeal.Read

/-- One constant filled into an array. -/
def fill (s : Shape) (hb : S_.BroadcastsInDim s ![]) (v : BitVec 32) : FVec Ideal s .f32 :=
  broadcastInDim s ![] hb (constant S_ .f32 v)

/-- The cross-entropies of an array of logits, spelt as the reference spells them. -/
def hostEntropy {s : Shape} (hb : S_.BroadcastsInDim s ![]) (p : FVec Ideal s .f32) : FVec Ideal s .f32 :=
  addf (subf (maximumf p (fill s hb 0x00000000#32)) (mulf p (fill s hb 0x00000000#32)))
    (Host.log1p (Host.exp (Host.negf (Host.absf p))))

/-- Each is the cross-entropy of its logit. -/
theorem hostEntropy_apply {s : Shape} (hb : S_.BroadcastsInDim s ![]) (p : FVec Ideal s .f32) (i : s.Idx) :
    hostEntropy hb p i = crossEntropy (p i) := by
  show max (p i) (Ideal.ofBits .f32 0x00000000#32) - p i * Ideal.ofBits .f32 0x00000000#32
    + Ideal.log1p (Ideal.exp (-max (p i) (-p i))) = _
  rw [Ideal.ofBits_zero_f32, hostEntropy_eq]

/-- The focal terms of an array of logits, spelt as the reference spells them. -/
def hostFocal {s : Shape} (hb : S_.BroadcastsInDim s ![]) (p : FVec Ideal s .f32) : FVec Ideal s .f32 :=
  mulf (mulf (fill s hb 0x3E800000#32)
    (Host.powf (subf (fill s hb 0x3F800000#32) (Host.exp (Host.negf (hostEntropy hb p)))) (fill s hb 0x40000000#32))) (hostEntropy hb p)

/-- Each is a quarter of the focal loss of its logit. -/
theorem hostFocal_apply {s : Shape} (hb : S_.BroadcastsInDim s ![]) (p : FVec Ideal s .f32) (i : s.Idx) :
    hostFocal hb p i = ((1 / 4 : ℝ) : EReal) * focal (p i) := by
  show Ideal.ofBits .f32 0x3E800000#32 * Ideal.pow (Ideal.ofBits .f32 0x3F800000#32 - Ideal.exp (-hostEntropy hb p i))
    (Ideal.ofBits .f32 0x40000000#32) * hostEntropy hb p i = _
  rw [ofBits_quarter, Ideal.ofBits_one_f32, ofBits_two, hostEntropy_apply, hostFocal_eq]

/-- The mean of the focal terms of a map's logits is the map's contribution. -/
theorem mean_logits {h w : ℕ} (n : BitVec 32) (x : (Field h w).Idx → EReal) (hb : S_.BroadcastsInDim (Logits h w) ![])
    {axes : List (Fin 4)} (hr : (Logits h w).ReducesTo axes S_) (i : S_.Idx) :
    Host.divf (F := Ideal) (Host.reduceAdd (hostFocal hb (logits x)) (constant S_ .f32 0x00000000#32) hr h_S_)
      (constant S_ .f32 n) i = contribution n x := by
  have e : Host.reduceAdd (F := Ideal) (hostFocal hb (logits x)) (constant S_ .f32 0x00000000#32) hr h_S_ i
      = ((1 / 4 : ℝ) : EReal) * ∑ i, focal (gather x i) := by
    refine (Ideal.hostReduceAdd_total hr (fun b => b.elim0) (hostFocal hb (logits x)) (Ideal.ofBits .f32 0x00000000#32) i).trans ?_
    rw [Ideal.ofBits_zero_f32, zero_add, Finset.sum_congr rfl fun i _ => hostFocal_apply hb (logits x) i, sum_quarter, sum_logits]
  show Ideal.div (Host.reduceAdd (F := Ideal) _ _ hr h_S_ i) _ = _
  rw [e]; rfl

end Cert.Loss

end
-- ==== Proof.Equation.lean ====
module

public import proofs.«01_k».proof.Proof.ReferenceRun

/-! # The reference's results are the kernel's

The reference's three means are the three contributions, so its objectness loss is the kernel's. The other two losses are
zero times a constant, so its total is the kernel's too, and its list holds the same five numbers. -/

@[expose] public section

noncomputable section

namespace Cert.Loss

open Idealize.ShloMosaic Cert.ReferenceIdeal Cert.ReferenceIdeal.Gen Cert.ReferenceIdeal.Read

variable (x0 : (Field 64 64).Idx → EReal) (x1 : (Field 32 32).Idx → EReal) (x2 : (Field 16 16).Idx → EReal)

/-- The reference's logits of the first map. -/
theorem logits_first : val_main_v6 (F := Ideal) x0 = logits x0 := reshaped_eq x0 _ _ _ _
/-- Of the second. -/
theorem logits_second : val_main_v34 (F := Ideal) x1 = logits x1 := reshaped_eq x1 _ _ _ _
/-- Of the third. -/
theorem logits_third : val_main_v62 (F := Ideal) x2 = logits x2 := reshaped_eq x2 _ _ _ _

/-- The mean of the first map's focal terms is its contribution. -/
theorem mean_first (i : S_.Idx) : val_main_v26 (F := Ideal) x0 i = contribution 0x48400000#32 x0 := by
  rw [← mean_logits 0x48400000#32 x0 bcast_S_S16x3x64x64 reducesTo_S16x3x64x64_S_d0_1_2_3 i, ← logits_first]; rfl
/-- Of the second. -/
theorem mean_second (i : S_.Idx) : val_main_v54 (F := Ideal) x1 i = contribution 0x47400000#32 x1 := by
  rw [← mean_logits 0x47400000#32 x1 bcast_S_S16x3x32x32 reducesTo_S16x3x32x32_S_d0_1_2_3 i, ← logits_second]; rfl
/-- Of the third. -/
theorem mean_third (i : S_.Idx) : val_main_v82 (F := Ideal) x2 i = contribution 0x46400000#32 x2 := by
  rw [← mean_logits 0x46400000#32 x2 bcast_S_S16x3x16x16 reducesTo_S16x3x16x16_S_d0_1_2_3 i, ← logits_third]; rfl

/-- The reference's objectness loss is the kernel's. -/
theorem reference_objectness (i : S_.Idx) :
    val_main_v83 (F := Ideal) x0 x1 x2 i = KernelIdeal.Loss.objectness (F := Ideal) x0 x1 x2 := by
  show Ideal.ofBits .f32 0x00000000#32 + val_main_v26 (F := Ideal) x0 i + val_main_v54 (F := Ideal) x1 i
    + val_main_v82 (F := Ideal) x2 i = _
  rw [mean_first, mean_second, mean_third, Ideal.ofBits_zero_f32, zero_add, objectness_eq]; rfl

/-- The reference's total is the kernel's. -/
theorem reference_total (i : S_.Idx) :
    val_main_v91 (F := Ideal) x0 x1 x2 i = KernelIdeal.Loss.total (F := Ideal) x0 x1 x2 := by
  show min (Ideal.ofBits .f32 0x00000000#32 * Ideal.ofBits .f32 0x3D4CCCCD#32
      + val_main_v83 (F := Ideal) x0 x1 x2 i * Ideal.ofBits .f32 0x3E99999A#32
      + Ideal.ofBits .f32 0x00000000#32 * Ideal.ofBits .f32 0x3F000000#32
      + Ideal.ofBits .f32 0x00000000#32 * Ideal.ofBits .f32 0x3E19999A#32) (Ideal.ofBits .f32 0x42C80000#32) = _
  rw [Ideal.ofBits_zero_f32, zero_mul, zero_mul, zero_mul, zero_add, add_zero, add_zero, reference_objectness, objectness_eq, total_eq]

/-- The reference's list of losses is the kernel's. -/
theorem reference_items : val_main_v97 (F := Ideal) x0 x1 x2 = KernelIdeal.Loss.items (F := Ideal) x0 x1 x2 := by
  funext i
  unfold val_main_v97
  have zero : ∀ k, (i 0).val = k → k ≠ 4 → k ≠ 1 →
      Ideal.ofBits .f32 0x00000000#32 = KernelIdeal.Loss.items (F := Ideal) x0 x1 x2 i := by
    intro k hk h4 h1
    rw [KernelIdeal.Loss.items, if_neg (hk ▸ h4), if_neg (hk ▸ h1)]; rfl
  refine concatenate_unit_eq _ _ _ i _ rfl
    ⟨fun h _ _ _ _ => zero 0 h (by decide) (by decide), fun h _ _ _ _ => ?_, fun h _ _ _ _ => zero 2 h (by decide) (by decide),
      fun h _ _ _ _ => zero 3 h (by decide) (by decide), fun h _ _ _ _ => ?_, trivial⟩
  · refine (reference_objectness x0 x1 x2 _).trans ?_
    rw [KernelIdeal.Loss.items, if_neg (h ▸ by decide), if_pos h]
  · refine (reference_total x0 x1 x2 _).trans ?_
    rw [KernelIdeal.Loss.items, if_pos h]

end Cert.Loss

end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel, on any float values, ends with its arguments as launched and every counter at zero. -/
theorem frame {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  θ_run_mono (KernelIdeal.Loss.run (F := F) m ρ) fun _ h => ⟨fun c => (h.1 c).2.2, h.2⟩

/-- The kernel printed for bit patterns and the one printed for extended reals call the same bodies. -/
theorem bodies_eq {F : FTy → Type} [FloatOps F] : Kernel.defs (F := F) = KernelIdeal.defs (F := F) := by
  have h : Kernel.defs₀ (F := F) = KernelIdeal.defs₀ (F := F) := by
    unfold Kernel.defs₀ KernelIdeal.defs₀
    refine congrArg Defs.onTc (funext fun l => funext fun x => ?_)
    match l, x with
    | 0, (t, s) => exact rfl
  exact congrArg (Pipeline.defs _) h

/-- So the kernel on bit patterns does too: it is the same program, read at other float values. -/
theorem kernel_frame : quiescent_Kernel (hKernel := Cert.Kernel.Gen.facts) := fun m ρ _ => by
  have h := frame (F := Bits) m ρ
  rw [← bodies_eq] at h
  exact h

/-- And the kernel on extended reals. -/
theorem kernelIdeal_frame : quiescent_KernelIdeal (hKernelIdeal := Cert.KernelIdeal.Gen.facts) := fun m ρ _ =>
  frame (F := Ideal) m ρ

/-- So does the reference, which has no counter. -/
theorem reference_frame : quiescent_ReferenceIdeal (hReferenceIdeal := Cert.ReferenceIdeal.Gen.facts) := fun m ρ _ =>
  θ_run_mono (ReferenceIdeal.Value.run (F := Ideal) m ρ) fun r h =>
    ⟨fun c => (h c).2.2, sem_eq_zero_of_no_sems (by decide) r.2⟩

/-- On equal arguments the kernel and the reference end with equal totals and equal lists of losses. -/
theorem results_agree : algebraic_KernelIdeal_ReferenceIdeal (hKernelIdeal := Cert.KernelIdeal.Gen.facts)
    (hReferenceIdeal := Cert.ReferenceIdeal.Gen.facts) := by
  intro m ρ m' ρ' _ agree
  refine ⟨_, _, θ_run_mono (KernelIdeal.Loss.run (F := Ideal) m ρ) fun _ h => h.1,
    θ_run_mono (ReferenceIdeal.Value.run (F := Ideal) m' ρ') fun r h c => ⟨(h c).1.trans ?_, (h c).2.1.trans ?_, (h c).2.2⟩⟩
  · rw [ReferenceIdeal.Read.val_main_v91_eq, (agree c).1, (agree c).2.1, (agree c).2.2.1]
    exact funext fun i => Loss.reference_total _ _ _ i
  · rw [ReferenceIdeal.Read.val_main_v97_eq, (agree c).1, (agree c).2.1, (agree c).2.2.1]
    exact Loss.reference_items _ _ _

/-- Everything claimed of the two programs. -/
theorem claim : Cert.Claim := ⟨Cert.Kernel.Gen.facts, Cert.KernelIdeal.Gen.facts, Cert.ReferenceIdeal.Gen.facts,
  kernel_frame, kernelIdeal_frame, reference_frame, trivial, results_agree⟩

end Cert.Proof

end
